-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sinks_nonneg [hPre_sinks_nonneg : Cert.Pre_sinks_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_sinks_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sinks_nonneg [hPre_sinks_nonneg : Cert.Pre_sinks_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sinks_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sinks_nonneg [hKernelIdeal : Cert.KernelIdeal.Facts] [hPre_sinks_nonneg : Cert.Pre_sinks_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sinks_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sinks_nonneg [hReferenceIdeal : Cert.ReferenceIdeal.Facts] [hPre_sinks_nonneg : Cert.Pre_sinks_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sinks_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sinks_nonneg [hKernelIdeal : Cert.KernelIdeal.Facts] [hReferenceIdeal : Cert.ReferenceIdeal.Facts] [hPre_sinks_nonneg : Cert.Pre_sinks_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sinks_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sinks_nonneg : Cert.Pre_sinks_nonneg.Facts),
    quiescent_Kernel (hKernel := hKernel)
    ∧ quiescent_KernelIdeal (hKernelIdeal := hKernelIdeal)
    ∧ quiescent_KernelIdeal_pre_sinks_nonneg (hKernelIdeal := hKernelIdeal) (hPre_sinks_nonneg := hPre_sinks_nonneg)
    ∧ quiescent_ReferenceIdeal (hReferenceIdeal := hReferenceIdeal)
    ∧ quiescent_ReferenceIdeal_pre_sinks_nonneg (hReferenceIdeal := hReferenceIdeal) (hPre_sinks_nonneg := hPre_sinks_nonneg)
    ∧ preserves_Kernel_KernelIdeal
    ∧ algebraic_KernelIdeal_ReferenceIdeal_pre_sinks_nonneg (hKernelIdeal := hKernelIdeal) (hReferenceIdeal := hReferenceIdeal) (hPre_sinks_nonneg := hPre_sinks_nonneg)
-- ==== Pre_sinks_nonneg.lean ====
abbrev S2048x8x16x16x8 : Shape := ⟨5, ![2048, 8, 16, 16, 8]⟩
abbrev S64x257 : Shape := ⟨2, ![64, 257]⟩
abbrev S64 : Shape := ⟨1, ![64]⟩
abbrev S64x1 : Shape := ⟨2, ![64, 1]⟩
abbrev S_ : Shape := ⟨0, ![]⟩

class Facts : Prop where
  slices_S64x257_S64x1_0_0 : S64x257.Slices ![0, 0] S64x1
  shapeCasts_S64x1_S64 : S64x1.ShapeCasts S64
  bcast_S_S64 : S_.BroadcastsInDim S64 (![] : Fin 0 → Fin S64.rank)

variable [Facts]

def fn {F : FTy → Type} [FloatOps F] (main_arg0 : FVec F S2048x8x16x16x8 .f32) (main_arg1 : IVec S64x257 32) (main_arg2 : IVec S64 32) : IVec S64 1 :=
  let main_v0 : IVec S64x1 32 := (extractStridedSlice S64x1 ![0, 0] · slices_S64x257_S64x1_0_0) main_arg1
  let main_v1 : IVec S64 32 := shapeCast S64 main_v0 shapeCasts_S64x1_S64
  let main_c : IVec S_ 32 := constantI S_ 32 0#32
  let main_v2 : IVec S64 32 := broadcastInDim S64 ![] bcast_S_S64 main_c
  let main_v3 : IVec S64 1 := cmpi .sge main_v1 main_v2
  main_v3
-- ==== Kernel.lean ====
abbrev S2048x8x16x16x8 : Shape := ⟨5, ![2048, 8, 16, 16, 8]⟩
abbrev S64x257 : Shape := ⟨2, ![64, 257]⟩
abbrev S64 : Shape := ⟨1, ![64]⟩
abbrev S8x16x16x8x2048 : Shape := ⟨5, ![8, 16, 16, 8, 2048]⟩
abbrev S64x1 : Shape := ⟨2, ![64, 1]⟩
abbrev S8x16x16x8x128 : Shape := ⟨5, ![8, 16, 16, 8, 128]⟩
abbrev S64x128 : Shape := ⟨2, ![64, 128]⟩
abbrev S128 : Shape := ⟨1, ![128]⟩
abbrev S1x128 : Shape := ⟨2, ![1, 128]⟩
abbrev S1x8x1x8x128 : Shape := ⟨5, ![1, 8, 1, 8, 128]⟩
abbrev S1x1x1x1x128 : Shape := ⟨5, ![1, 1, 1, 1, 128]⟩
abbrev S1x8x16x8x128 : Shape := ⟨5, ![1, 8, 16, 8, 128]⟩
abbrev S8x16x8x128 : Shape := ⟨4, ![8, 16, 8, 128]⟩
abbrev S8x1x8x128 : Shape := ⟨4, ![8, 1, 8, 128]⟩

abbrev nBuf : Space → Nat
  | .hbm => 8
  | .vmem => 6
  | .smem => 0
  | _ => 0

abbrev bufTy : (tb : Table) → Fin (tcTables nBuf tb) → BufTy
  | .hbm, ⟨0, _⟩ => ⟨S2048x8x16x16x8, .f32⟩
  | .hbm, ⟨1, _⟩ => ⟨S64x257, .i32⟩
  | .hbm, ⟨2, _⟩ => ⟨S64, .i32⟩
  | .hbm, ⟨3, _⟩ => ⟨S8x16x16x8x2048, .f32⟩
  | .hbm, ⟨4, _⟩ => ⟨S64x1, .i32⟩
  | .hbm, ⟨5, _⟩ => ⟨S64x1, .i32⟩
  | .hbm, ⟨6, _⟩ => ⟨S8x16x16x8x2048, .f32⟩
  | .hbm, ⟨7, _⟩ => ⟨S2048x8x16x16x8, .f32⟩
  | .local _ .vmem, ⟨0, _⟩ => ⟨S64x1, .i32⟩
  | .local _ .vmem, ⟨1, _⟩ => ⟨S64x1, .i32⟩
  | .local _ .vmem, ⟨2, _⟩ => ⟨S8x16x16x8x128, .f32⟩
  | .local _ .vmem, ⟨3, _⟩ => ⟨S8x16x16x8x128, .f32⟩
  | .local _ .vmem, ⟨4, _⟩ => ⟨S8x16x16x8x128, .f32⟩
  | .local _ .vmem, ⟨5, _⟩ => ⟨S8x16x16x8x128, .f32⟩
  | _, _ => ⟨S2048x8x16x16x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat, arg0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat, arg0.toNat]

abbrev stage0_0 : Fin 1 → Memref sig .tc .vmem S64x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x16x16x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x16x16x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2048x8x16x16x8 : Shape := ⟨5, ![2048, 8, 16, 16, 8]⟩
abbrev S64x257 : Shape := ⟨2, ![64, 257]⟩
abbrev S64 : Shape := ⟨1, ![64]⟩
abbrev S64x1 : Shape := ⟨2, ![64, 1]⟩
abbrev S_ : Shape := ⟨0, ![]⟩
abbrev S1 : Shape := ⟨1, ![1]⟩
abbrev S1x1 : Shape := ⟨2, ![1, 1]⟩
abbrev S64x8x16x16x8 : Shape := ⟨5, ![64, 8, 16, 16, 8]⟩
abbrev S1x16 : Shape := ⟨2, ![1, 16]⟩
abbrev S64x16 : Shape := ⟨2, ![64, 16]⟩
abbrev S64x16x8x16x8 : Shape := ⟨5, ![64, 16, 8, 16, 8]⟩
abbrev S64x16x1024 : Shape := ⟨3, ![64, 16, 1024]⟩
abbrev S64x16x1 : Shape := ⟨3, ![64, 16, 1]⟩
abbrev S1x1x64 : Shape := ⟨3, ![1, 1, 64]⟩
abbrev S64x16x64 : Shape := ⟨3, ![64, 16, 64]⟩
abbrev S64x16x1x64 : Shape := ⟨4, ![64, 16, 1, 64]⟩
abbrev S64x16x8x128 : Shape := ⟨4, ![64, 16, 8, 128]⟩
abbrev S64x16x8x64 : Shape := ⟨4, ![64, 16, 8, 64]⟩

abbrev nBuf : Space → Nat
  | .hbm => 96
  | .vmem => 0
  | .smem => 0
  | _ => 0

abbrev bufTy : (tb : Table) → Fin (tcTables nBuf tb) → BufTy
  | .hbm, ⟨0, _⟩ => ⟨S2048x8x16x16x8, .f32⟩
  | .hbm, ⟨1, _⟩ => ⟨S64x257, .i32⟩
  | .hbm, ⟨2, _⟩ => ⟨S64, .i32⟩
  | .hbm, ⟨3, _⟩ => ⟨S64x1, .i32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S1, .i32⟩
  | .hbm, ⟨14, _⟩ => ⟨S_, .i32⟩
  | .hbm, ⟨15, _⟩ => ⟨S64x1, .i32⟩
  | .hbm, ⟨16, _⟩ => ⟨S64x1, .i1⟩
  | .hbm, ⟨17, _⟩ => ⟨S1x1, .i32⟩
  | .hbm, ⟨18, _⟩ => ⟨S64x1, .i32⟩
  | .hbm, ⟨19, _⟩ => ⟨S64x1, .i1⟩
  | .hbm, ⟨20, _⟩ => ⟨S64x1, .i1⟩
  | .hbm, ⟨21, _⟩ => ⟨S_, .i1⟩
  | .hbm, ⟨22, _⟩ => ⟨S64, .i1⟩
  | .hbm, ⟨23, _⟩ => ⟨S64x8x16x16x8, .f32⟩
  | .hbm, ⟨24, _⟩ => ⟨S64x8x16x16x8, .i1⟩
  | .hbm, ⟨25, _⟩ => ⟨S_, .f32⟩
  | .hbm, ⟨26, _⟩ => ⟨S64x8x16x16x8, .f32⟩
  | .hbm, ⟨27, _⟩ => ⟨S64x8x16x16x8, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S1x16, .f32⟩
  | .hbm, ⟨37, _⟩ => ⟨S64x1, .f32⟩
  | .hbm, ⟨38, _⟩ => ⟨S64x16, .f32⟩
  | .hbm, ⟨39, _⟩ => ⟨S64x16, .f32⟩
  | .hbm, ⟨40, _⟩ => ⟨S64x16, .f32⟩
  | .hbm, ⟨41, _⟩ => ⟨S64x16, .i32⟩
  | .hbm, ⟨42, _⟩ => ⟨S64x16x8x16x8, .f32⟩
  | .hbm, ⟨43, _⟩ => ⟨S64x16x1024, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S64x16, .f32⟩
  | .hbm, ⟨61, _⟩ => ⟨S64x16x1, .f32⟩
  | .hbm, ⟨62, _⟩ => ⟨S1x1x64, .f32⟩
  | .hbm, ⟨63, _⟩ => ⟨S64x16x64, .f32⟩
  | .hbm, ⟨64, _⟩ => ⟨S64x16x64, .f32⟩
  | .hbm, ⟨65, _⟩ => ⟨S64x16x64, .f32⟩
  | .hbm, ⟨66, _⟩ => ⟨S64x16x64, .f32⟩
  | .hbm, ⟨67, _⟩ => ⟨S64x16x1x64, .f32⟩
  | .hbm, ⟨68, _⟩ => ⟨S64x16x64, .f32⟩
  | .hbm, ⟨69, _⟩ => ⟨S64x16x1x64, .f32⟩
  | .hbm, ⟨70, _⟩ => ⟨S64x16x8x128, .f32⟩
  | .hbm, ⟨71, _⟩ => ⟨S64x16x8x64, .f32⟩
  | .hbm, ⟨72, _⟩ => ⟨S64x16x8x64, .f32⟩
  | .hbm, ⟨73, _⟩ => ⟨S64x16x8x64, .f32⟩
  | .hbm, ⟨74, _⟩ => ⟨S64x16x8x64, .f32⟩
  | .hbm, ⟨75, _⟩ => ⟨S64x16x8x64, .f32⟩
  | .hbm, ⟨76, _⟩ => ⟨S64x16x8x64, .f32⟩
  | .hbm, ⟨77, _⟩ => ⟨S64x16x8x64, .f32⟩
  | .hbm, ⟨78, _⟩ => ⟨S64x16x8x64, .f32⟩
  | .hbm, ⟨79, _⟩ => ⟨S64x16x8x64, .f32⟩
  | .hbm, ⟨80, _⟩ => ⟨S64x16x8x64, .f32⟩
  | .hbm, ⟨81, _⟩ => ⟨S64x16x8x64, .f32⟩
  | .hbm, ⟨82, _⟩ => ⟨S64x16x8x64, .f32⟩
  | .hbm, ⟨83, _⟩ => ⟨S64x16x8x128, .f32⟩
  | .hbm, ⟨84, _⟩ => ⟨S64x16x1024, .f32⟩
  | .hbm, ⟨85, _⟩ => ⟨S64x16x8x16x8, .f32⟩
  | .hbm, ⟨86, _⟩ => ⟨S64x8x16x16x8, .f32⟩
  | .hbm, ⟨87, _⟩ => ⟨S_, .i32⟩
  | .hbm, ⟨88, _⟩ => ⟨S64, .i32⟩
  | .hbm, ⟨89, _⟩ => ⟨S64, .i1⟩
  | .hbm, ⟨90, _⟩ => ⟨S_, .i32⟩
  | .hbm, ⟨91, _⟩ => ⟨S64, .i32⟩
  | .hbm, ⟨92, _⟩ => ⟨S64, .i32⟩
  | .hbm, ⟨93, _⟩ => ⟨S64, .i32⟩
  | .hbm, ⟨94, _⟩ => ⟨S64x1, .i32⟩
  | .hbm, ⟨95, _⟩ => ⟨S2048x8x16x16x8, .f32⟩
  | _, _ => ⟨S2048x8x16x16x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_2 : Ref sig .tc := ⟨.hbm, 45, rfl⟩
abbrev main_v17 : Ref sig .tc := ⟨.hbm, 46, rfl⟩
abbrev main_v18 : Ref sig .tc := ⟨.hbm, 47, rfl⟩
abbrev main_cst_3 : Ref sig .tc := ⟨.hbm, 48, rfl⟩
abbrev main_v19 : Ref sig .tc := ⟨.hbm, 49, rfl⟩
abbrev main_v20 : Ref sig .tc := ⟨.hbm, 50, rfl⟩
abbrev main_cst_4 : Ref sig .tc := ⟨.hbm, 51, rfl⟩
abbrev main_v21 : Ref sig .tc := ⟨.hbm, 52, rfl⟩
abbrev main_v22 : Ref sig .tc := ⟨.hbm, 53, rfl⟩
abbrev main_cst_5 : Ref sig .tc := ⟨.hbm, 54, rfl⟩
abbrev main_v23 : Ref sig .tc := ⟨.hbm, 55, rfl⟩
abbrev main_v24 : Ref sig .tc := ⟨.hbm, 56, rfl⟩
abbrev main_cst_6 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c : Ref sig .tc := ⟨.hbm, 87, rfl⟩
abbrev main_v54 : Ref sig .tc := ⟨.hbm, 88, rfl⟩
abbrev main_v55 : Ref sig .tc := ⟨.hbm, 89, rfl⟩
abbrev main_c_7 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩

abbrev nD : Nat := 1
abbrev τ : Topo := Topo.v7x

variable {F : FTy → Type} [FloatOps F]
-- ==== Proof.Numbers.lean ====
/- The numbers of the two programs: literals, the rotation position as an integer, the frequencies. -/
module

public import Idealize.ShloMosaic.Lib.Pointwise
public import Idealize.ShloMosaic.Lib.IdealHost

@[expose] public section

noncomputable section

namespace Cert.Numbers

open Idealize.ShloMosaic

/-- The literal 4112. -/
theorem lit_4112 : Ideal.ofBits .f32 0x45808000#32 = ((4112 : ℝ) : EReal) := by
  simp [Ideal.ofBits, Ideal.ieee]; norm_num [← EReal.coe_mul]
/-- The literal 10000. -/
theorem lit_10000 : Ideal.ofBits .f32 0x461C4000#32 = ((10000 : ℝ) : EReal) := by
  simp [Ideal.ofBits, Ideal.ieee]; norm_num [← EReal.coe_mul]
/-- The literal 64. -/
theorem lit_64 : Ideal.ofBits .f32 0x42800000#32 = ((64 : ℝ) : EReal) := by
  simp [Ideal.ofBits, Ideal.ieee]; norm_num [← EReal.coe_mul]
/-- The literal 128. -/
theorem lit_128 : Ideal.ofBits .f32 0x43000000#32 = ((128 : ℝ) : EReal) := by
  simp [Ideal.ofBits, Ideal.ieee]; norm_num [← EReal.coe_mul]
/-- The literal 2. -/
theorem lit_2 : Ideal.ofBits .f32 0x40000000#32 = ((2 : ℝ) : EReal) := by
  simp [Ideal.ofBits, Ideal.ieee]; norm_num [← EReal.coe_mul]

/-- The rotation position of a sequence whose position is the word `q`: how far it lies past 4112, and zero before. -/
def past (q : BitVec 32) : ℤ := max (q.toInt - 4112) 0

/-- The float maximum that both programs take is the rotation position, an integer. -/
theorem past_eq (q : BitVec 32) :
    max (FloatOps.sitofp (F := Ideal) .f32 q - Ideal.ofBits .f32 0x45808000#32) (0 : EReal) = (((past q : ℤ) : ℝ) : EReal) := by
  rw [lit_4112]
  show max (((q.toInt : ℝ) : EReal) - ((4112 : ℝ) : EReal)) ((0 : ℝ) : EReal) = _
  rw [← EReal.coe_sub, ← EReal.coe_strictMono.monotone.map_max, past]
  norm_cast

/-- Rounding a rotation position to a 32-bit integer and back loses nothing. -/
theorem past_round (q : BitVec 32) :
    FloatOps.sitofp (F := Ideal) .f32 (FloatOps.fptosi (F := Ideal) (φ := .f32) 32 (((past q : ℤ) : ℝ) : EReal)) = (((past q : ℤ) : ℝ) : EReal) := by
  have h1 : q.toInt < 2 ^ 31 := by simpa using BitVec.toInt_lt (x := q)
  have hp0 : 0 ≤ past q := le_max_right _ _
  have hp1 : past q < 2 ^ 31 := by unfold past; omega
  show (((Ideal.fptosi 32 (((past q : ℤ) : ℝ) : EReal)).toInt : ℝ) : EReal) = _
  have e : Ideal.fptosi 32 (((past q : ℤ) : ℝ) : EReal) = BitVec.ofInt 32 (past q) := by
    unfold Ideal.fptosi
    rw [Ideal.toIntClamped_coe]
    congr 1
    rw [if_pos (by exact_mod_cast hp0), Int.floor_intCast]
    norm_num
    omega
  rw [e, BitVec.toInt_ofInt]
  congr 2
  rw [Int.bmod_eq_of_le] <;> omega

/-- The frequency of the pair number `k`: the power of 1/10000 with exponent `k / 64`. -/
def freq (k : ℕ) : ℝ := Real.exp (k * (-Real.log 10000 / 64))

/-- The kernel's frequency, an exponential. -/
theorem freq_exp (k : ℕ) (x : EReal) (hx : x = ((k : ℝ) : EReal)) :
    Ideal.exp (x * Ideal.div (0 - Ideal.log (Ideal.ofBits .f32 0x461C4000#32)) (Ideal.ofBits .f32 0x42800000#32)) = ((freq k : ℝ) : EReal) := by
  rw [hx, lit_10000, lit_64, Ideal.log_coe, if_neg (by norm_num), Ideal.div_coe (by norm_num), zero_sub, ← EReal.coe_neg, ← EReal.coe_mul,
    ← EReal.coe_mul, Ideal.exp_coe, freq]
  congr 3; ring

/-- The reference's frequency, one over a power. -/
theorem freq_pow (k : ℕ) (x : EReal) (hx : x = ((k : ℝ) : EReal)) :
    Ideal.div 1 (Ideal.pow (Ideal.ofBits .f32 0x461C4000#32) (Ideal.div (Ideal.ofBits .f32 0x40000000#32 * x) (Ideal.ofBits .f32 0x43000000#32)))
      = ((freq k : ℝ) : EReal) := by
  have hp : (0 : ℝ) < Real.rpow 10000 (2 * k * (1 / 128)) := Real.rpow_pos_of_pos (by norm_num) _
  rw [hx, lit_10000, lit_2, lit_128, ← EReal.coe_mul, Ideal.div_coe (by norm_num), ← EReal.coe_mul, Ideal.pow_coe_coe, Ideal.div_coe hp.ne', one_mul, freq]
  congr 1
  show 1 / (10000 : ℝ) ^ (2 * k * (1 / 128) : ℝ) = _
  rw [Real.rpow_def_of_pos (by norm_num), one_div, ← Real.exp_neg]
  congr 1; ring

/-- A word that holds a small number is that number as a float. -/
theorem sitofp_small (n : ℕ) (h : n < 2 ^ 31) : FloatOps.sitofp (F := Ideal) .f32 (BitVec.ofNat 32 n) = ((n : ℝ) : EReal) := by
  show (((BitVec.ofNat 32 n).toInt : ℝ) : EReal) = _
  have : (BitVec.ofNat 32 n).toInt = (n : ℤ) := by
    rw [BitVec.toInt_eq_toNat_of_lt] <;> simp <;> omega
  rw [this]; norm_cast

end Cert.Numbers

end
-- ==== Proof.Block.lean ====
/- What one block of the kernel computes: the last matching sequence, its rotation position, the angles and the rotated halves. -/
module

public import proofs.«01_k».proof.Proof.Numbers
public import proofs.«01_k».proof.Proof.Gen.KernelIdeal.Skeleton

@[expose] public section

set_option maxRecDepth 16384

noncomputable section

namespace Cert.Block

open Idealize.ShloMosaic Cert.KernelIdeal Cert.KernelIdeal.Gen Idealize.SL.Sem
open Cert.Numbers (past past_eq freq_exp)

/-- The signed maximum of two words, as integers. -/
theorem toInt_max (x y : BitVec 32) : (IntOp.maxsi x y).toInt = max x.toInt y.toInt := by
  unfold IntOp.maxsi
  by_cases h : y.slt x = true
  · rw [if_pos h, max_eq_left]; rw [BitVec.slt, decide_eq_true_iff] at h; omega
  · rw [if_neg h, max_eq_right]; rw [BitVec.slt, decide_eq_true_iff] at h; omega

/-- A comparison for equality that holds. -/
theorem eq_hit {x y : BitVec 32} (h : x = y) : IntOp.cmpi CmpIPredicate.eq x y = 1#1 := by
  subst h; show BitVec.ofBool (x == x) = 1#1; rw [beq_self_eq_true]; rfl

/-- A comparison for equality that fails. -/
theorem eq_miss {x y : BitVec 32} (h : x ≠ y) : IntOp.cmpi CmpIPredicate.eq x y = 0#1 := by
  show BitVec.ofBool (x == y) = 0#1; rw [beq_eq_false_iff_ne.2 h]; rfl

/-- A small number's word, as an integer. -/
theorem toInt_small (n : ℕ) (h : n < 2 ^ 31) : (BitVec.ofNat 32 n).toInt = (n : ℤ) := by
  rw [BitVec.toInt_eq_toNat_of_lt] <;> simp <;> omega

/-- The number of the last row that holds the word `B`, as the kernel finds it. -/
def last (S : Fin 64 → BitVec 32) (B : BitVec 32) : BitVec 32 :=
  Finset.fold IntOp.maxsi (2147483648#32)
    (fun x : Fin 64 => Scalar.select (IntOp.cmpi CmpIPredicate.eq B (S x)) (BitVec.ofNat 32 x.val) 4294967295#32) Finset.univ

/-- The rotation position of the last row that holds the word `B`, as the kernel sums it. -/
def theta (S Q : Fin 64 → BitVec 32) (B : BitVec 32) : EReal :=
  ∑ x : Fin 64, Scalar.select (IntOp.andi (IntOp.cmpi CmpIPredicate.eq (BitVec.ofNat 32 x.val) (last S B)) (IntOp.cmpi CmpIPredicate.eq B (S x)))
    (max (FloatOps.sitofp (F := Ideal) .f32 (Q x) - Ideal.ofBits .f32 0x45808000#32) (0 : EReal)) (0 : EReal)

/-- Where `w` is the last row that holds `B`, the kernel finds `w`. -/
theorem last_eq (S : Fin 64 → BitVec 32) (B : BitVec 32) (w : Fin 64) (hw : B = S w) (hl : ∀ i, w < i → B ≠ S i) :
    last S B = BitVec.ofNat 32 w.val := by
  have hwl := w.isLt
  apply BitVec.eq_of_toInt_eq
  rw [toInt_small _ (by omega)]
  have hom := Finset.fold_hom (op := IntOp.maxsi (w := 32)) (op' := (max : ℤ → ℤ → ℤ)) (m := BitVec.toInt) (s := (Finset.univ : Finset (Fin 64)))
    (b := 2147483648#32) (f := fun x : Fin 64 => Scalar.select (IntOp.cmpi CmpIPredicate.eq B (S x)) (BitVec.ofNat 32 x.val) 4294967295#32) toInt_max
  unfold last
  rw [← hom]
  apply le_antisymm
  · rw [Finset.fold_max_le]
    refine ⟨by simp, fun x _ => ?_⟩
    by_cases hx : B = S x
    · rw [eq_hit hx]
      have : x ≤ w := not_lt.1 fun h => hl x h hx
      have hxl := x.isLt
      show (BitVec.ofNat 32 x.val).toInt ≤ _
      rw [toInt_small _ (by omega)]
      exact_mod_cast this
    · rw [eq_miss hx]
      show (4294967295#32).toInt ≤ _
      have : (4294967295#32).toInt = -1 := by decide
      omega
  · rw [Finset.le_fold_max]
    refine Or.inr ⟨w, Finset.mem_univ _, ?_⟩
    rw [eq_hit hw]
    show _ ≤ (BitVec.ofNat 32 w.val).toInt
    rw [toInt_small _ (by omega)]

/-- Where no row holds `B`, the sum is zero. -/
theorem theta_none (S Q : Fin 64 → BitVec 32) (B : BitVec 32) (hn : ∀ i, B ≠ S i) : theta S Q B = 0 := by
  unfold theta
  refine Finset.sum_eq_zero fun x _ => ?_
  rw [eq_miss (hn x)]
  have : ∀ b : BitVec 1, IntOp.andi b 0#1 = 0#1 := by decide
  rw [this]; rfl

/-- Where `w` is the last row that holds `B`, the sum is the rotation position of row `w`. -/
theorem theta_last (S Q : Fin 64 → BitVec 32) (B : BitVec 32) (w : Fin 64) (hw : B = S w) (hl : ∀ i, w < i → B ≠ S i) :
    theta S Q B = (((past (Q w) : ℤ) : ℝ) : EReal) := by
  unfold theta
  rw [last_eq S B w hw hl, Finset.sum_eq_single w]
  · rw [eq_hit rfl, eq_hit hw, past_eq]; rfl
  · intro x _ hx
    have : BitVec.ofNat 32 x.val ≠ BitVec.ofNat 32 w.val := fun h => hx (Fin.ext (by
      have h1 := congrArg BitVec.toInt h
      have hxl := x.isLt
      have hwl := w.isLt
      rw [toInt_small _ (by omega), toInt_small _ (by omega)] at h1
      exact_mod_cast h1))
    rw [eq_miss this]
    have : ∀ b : BitVec 1, IntOp.andi 0#1 b = 0#1 := by decide
    rw [this]; rfl
  · intro h; exact absurd (Finset.mem_univ _) h

/-- The word of lane `n` of grid point `g`: the number of the block of the table that it holds. -/
def word (g : grid0.Coords) (n : Fin 128) : BitVec 32 := BitVec.ofNat 32 ((g 0).val * 128 + n.val)

/-- The kernel's angles, element by element: the rotation position of the lane's block times the frequency. -/
theorem angle_at (g : grid0.Coords) (S Q : IVec S64x1 32) (e l : Fin 8) (n : Fin 128) :
    k0_pay2 (F := Ideal) g S Q (ix5 (0 : Fin 1) e (0 : Fin 1) l n)
      = theta (fun x => S (ix2 x (0 : Fin 1))) (fun x => Q (ix2 x (0 : Fin 1))) (word g n) * ((Cert.Numbers.freq (e.val * 8 + l.val) : ℝ) : EReal) := by
  have he := e.isLt
  have hl := l.isLt
  have hw : word g n = IntOp.addi (BitVec.ofNat 32 n.val) (Scalar.muli (BitVec.ofNat 32 (g 0).val) 128#32) := by
    show BitVec.ofNat 32 _ = BitVec.ofNat 32 n.val + BitVec.ofNat 32 (g 0).val * BitVec.ofNat 32 128
    rw [← BitVec.ofNat_mul, ← BitVec.ofNat_add, Nat.add_comm]
  have hk : IntOp.addi (IntOp.muli (BitVec.ofNat 32 e.val) 8#32) (BitVec.ofNat 32 l.val) = BitVec.ofNat 32 (e.val * 8 + l.val) := by
    show BitVec.ofNat 32 e.val * BitVec.ofNat 32 8 + BitVec.ofNat 32 l.val = _
    rw [← BitVec.ofNat_mul, ← BitVec.ofNat_add]
  pointwise [k0_pay2]
  rw [hk]
  refine congrArg₂ (fun a b : EReal => a * b) ?_ (freq_exp (e.val * 8 + l.val) _ (Cert.Numbers.sitofp_small _ (by omega)))
  rw [hw]; rfl

end Cert.Block

end
-- ==== Proof.Sinks.lean ====
/- The precondition in words: no entry of the block table's first column is negative. -/
module

public import proofs.«01_k».proof.Pre_sinks_nonneg
public import proofs.«01_k».proof.Proof.Block

@[expose] public section

set_option maxRecDepth 16384

noncomputable section

namespace Cert.Sinks

open Idealize.ShloMosaic Cert.Pre_sinks_nonneg

/-- The side conditions the precondition's operations take. -/
theorem facts : Cert.Pre_sinks_nonneg.Facts where
  slices_S64x257_S64x1_0_0 := by decide
  shapeCasts_S64x1_S64 := by decide
  bcast_S_S64 := by decide

/-- A word that compares at least zero is a number at least zero. -/
theorem nonneg_of_sge (x : BitVec 32) (h : IntOp.cmpi CmpIPredicate.sge x 0#32 = 1#1) : 0 ≤ x.toInt := by
  have h' : BitVec.ofBool ((0#32).sle x) = 1#1 := h
  by_contra hn
  have : (0#32).sle x = false := by
    rw [BitVec.sle, decide_eq_false_iff_not]
    simpa using hn
  rw [this] at h'
  exact absurd h' (by decide)

/-- Where the precondition is all ones, no entry of the block table's first column is negative. -/
theorem nonneg [Cert.Pre_sinks_nonneg.Facts] (X : FVec Ideal S2048x8x16x16x8 .f32) (T : IVec S64x257 32) (Q : IVec S64 32)
    (h : Cert.Pre_sinks_nonneg.fn (F := Ideal) X T Q = fun _ => 1#1) (i : Fin 64) : 0 ≤ (T (ix2 i (0 : Fin 257))).toInt := by
  refine nonneg_of_sge _ ?_
  have hi := congrFun h (ix1 i)
  revert hi
  pointwise [Cert.Pre_sinks_nonneg.fn]
  exact fun hi => hi

end Cert.Sinks

end
-- ==== Proof.Stored.lean ====
/- What one grid point stores: the rotated block, element by element. -/
module

public import proofs.«01_k».proof.Proof.Block
public import proofs.«01_k».proof.Proof.Gen.KernelIdeal.Frame
public import Idealize.ShloMosaic.Lib.Pipeline.ValueKit

@[expose] public section

set_option maxRecDepth 16384

noncomputable section

namespace Cert.Stored

open Idealize.ShloMosaic Cert.KernelIdeal Cert.KernelIdeal.Gen Idealize.SL.Sem

/-- The rotation of sixteen values `x` by eight angles `a`, read at place `d`: the lower half holds
    `x d · cos (a d) − x (d + 8) · sin (a d)`, the upper half `x d · cos (a (d − 8)) + x (d − 8) · sin (a (d − 8))`. -/
def rotate (x : Fin 16 → EReal) (a : Fin 8 → EReal) (d : Fin 16) : EReal :=
  if hd : d.val < 8 then
    x d * Ideal.cos (a ⟨d.val, hd⟩) - x ⟨d.val + 8, by omega⟩ * Ideal.sin (a ⟨d.val, hd⟩)
  else
    x d * Ideal.cos (a ⟨d.val - 8, by omega⟩) + x ⟨d.val - 8, by omega⟩ * Ideal.sin (a ⟨d.val - 8, by omega⟩)

/-- The rotation by zero angles changes nothing. -/
theorem rotate_zero (x : Fin 16 → EReal) (d : Fin 16) : rotate x (fun _ => 0) d = x d := by
  have hc : Ideal.cos (0 : EReal) = 1 := by
    rw [← EReal.coe_zero, Ideal.cos_coe, Real.cos_zero, EReal.coe_one]
  have hs : Ideal.sin (0 : EReal) = 0 := by
    rw [← EReal.coe_zero, Ideal.sin_coe, Real.sin_zero]
  unfold rotate
  split_ifs <;> simp only [hc, hs, mul_one, mul_zero, sub_zero, add_zero]

/-- At every index, what a grid point leaves in its output block is the rotation, along the second axis, of
    the block it was given by the angles it computed. -/
theorem point (g : grid0.Coords) (x0 x1 : Vec Ideal S64x1 .i32) (x2 : Vec Ideal S8x16x16x8x128 .f32) (y : S8x16x16x8x128.Idx) :
    out0_3 (F := Ideal) g x0 x1 x2 y
      = rotate (fun e => x2 (ix5 (y 0) e (y 2) (y 3) (y 4)))
          (fun e => k0_pay2 (F := Ideal) g x0 x1 (ix5 (0 : Fin 1) e (0 : Fin 1) (y 3) (y 4))) (y 1) := by
  unfold_out out0_3
  canon_tiles x h
  all_goals
    open_payloads
    generalize k0_pay2 (F := Ideal) g x0 x1 = A
    pointwise [rotate, h0, h1, h2, h3, h4]
    blk_point []

/-- The same with the angles read: the last matching sequence's rotation position times the place's frequency. -/
theorem point_angles (g : grid0.Coords) (x0 x1 : Vec Ideal S64x1 .i32) (x2 : Vec Ideal S8x16x16x8x128 .f32)
    (h : Fin 8) (d s : Fin 16) (l : Fin 8) (n : Fin 128) :
    out0_3 (F := Ideal) g x0 x1 x2 (ix5 h d s l n)
      = rotate (fun e => x2 (ix5 h e s l n))
          (fun e => Cert.Block.theta (fun i => x0 (ix2 i (0 : Fin 1))) (fun i => x1 (ix2 i (0 : Fin 1))) (Cert.Block.word g n)
            * ((Cert.Numbers.freq (e.val * 8 + l.val) : ℝ) : EReal)) d :=
  (point g x0 x1 x2 (ix5 h d s l n)).trans
    (congrArg (fun a => rotate (fun e => x2 (ix5 h e s l n)) a d)
      (funext fun e => Cert.Block.angle_at g x0 x1 e l n))

end Cert.Stored

end
-- ==== Proof.Array.lean ====
/- What the kernel's result array holds: the arrays the blocks are cut from, the array the blocks are written to, and the
   result after the last transposition. -/
module

public import proofs.«01_k».proof.Proof.Stored

@[expose] public section

set_option maxRecDepth 16384

noncomputable section

namespace Cert.Held

open Idealize.ShloMosaic Idealize.ShloMosaic.TcCoe Cert.KernelIdeal Cert.KernelIdeal.Gen Idealize.SL.Sem
open Idealize.ShloMosaic.Pipeline (Dat)
open Cert.Stored (rotate point_angles)
open Cert.Block (theta word)

variable (m : (ℓ : Loc nD τ sig) → Buf (Elt Ideal) ℓ)

/-- The kernel's result at one place: cache block `b`, rotated by the position of the last sequence that names it. -/
def held (X : FVec Ideal S2048x8x16x16x8 .f32) (T : IVec S64x257 32) (Q : IVec S64 32)
    (b : Fin 2048) (h : Fin 8) (d s : Fin 16) (l : Fin 8) : EReal :=
  rotate (fun e => X (ix5 b h e s l))
    (fun e => theta (fun i => T (ix2 i (0 : Fin 257))) (fun i => Q (ix1 i)) (BitVec.ofNat 32 b.val)
      * ((Cert.Numbers.freq (e.val * 8 + l.val) : ℝ) : EReal)) d

/-- The key cache with its first axis moved to the end, as the grid finds it. -/
theorem entry_cache (c : Dev nD) :
    V m c main_v0 = transpose S8x16x16x8x2048 [1, 2, 3, 4, 0] (m ((c : Thread nD τ).loc main_arg0)) transposes_S2048x8x16x16x8_S8x16x16x8x2048_1_2_3_4_0 := by
  entry_read; try rfl

/-- The first column of the block table, as the grid finds it. -/
theorem entry_sinks (c : Dev nD) :
    V m c main_v1 = extractStridedSlice S64x1 ![0, 0] (m ((c : Thread nD τ).loc main_arg1)) slices_S64x257_S64x1_0_0 := by
  entry_read; try rfl

/-- The positions as one column, as the grid finds them. -/
theorem entry_positions (c : Dev nD) :
    V m c main_v2 = shapeCast S64x1 (m ((c : Thread nD τ).loc main_arg2)) shapeCasts_S64_S64x1 := by
  entry_read; try rfl

/-- Which block of its array each window shows at each grid point. -/
theorem idx : ∀ t : Fin cfg0.N, win0_0.index t = ![0, 0] ∧ win0_1.index t = ![0, 0]
    ∧ win0_2.index t = ![0, 0, 0, 0, t.val] ∧ win0_3.index t = ![0, 0, 0, 0, t.val] ∧ (grid0.coords t 0).val = t.val :=
  (by decide +kernel : ∀ t : Fin grid0.N, _)

/-- Every grid point sees the whole first column of the block table. -/
theorem blk0 (c : Dev nD) (t : Fin cfg0.N) (i : Fin 64) :
    (iblk m c 0 t : Vec Ideal S64x1 .i32) (ix2 i (0 : Fin 1)) = (m ((c : Thread nD τ).loc main_arg1) : IVec S64x257 32) (ix2 i (0 : Fin 257)) := by
  blk_simp [iblk]
  rw [show V m c (Pipeline.arrRef spec0 0) = _ from entry_sinks m c]
  pointwise
  blk_point [idx t]

/-- Every grid point sees all the positions. -/
theorem blk1 (c : Dev nD) (t : Fin cfg0.N) (i : Fin 64) :
    (iblk m c 1 t : Vec Ideal S64x1 .i32) (ix2 i (0 : Fin 1)) = (m ((c : Thread nD τ).loc main_arg2) : IVec S64 32) (ix1 i) := by
  blk_simp [iblk]
  rw [show V m c (Pipeline.arrRef spec0 1) = _ from entry_positions m c]
  pointwise
  blk_point [idx t]

/-- The block of the transposed cache that grid point `t` reads holds the cache's blocks `128 t … 128 t + 127`. -/
theorem blk2 (c : Dev nD) (t : Fin cfg0.N) (h : Fin 8) (d s : Fin 16) (l : Fin 8) (n : Fin 128) (b : Fin 2048)
    (hb : b.val = t.val * 128 + n.val) :
    (iblk m c 2 t : Vec Ideal S8x16x16x8x128 .f32) (ix5 h d s l n)
      = (m ((c : Thread nD τ).loc main_arg0) : FVec Ideal S2048x8x16x16x8 .f32) (ix5 b h d s l) := by
  blk_simp [iblk]
  rw [show V m c (Pipeline.arrRef spec0 2) = _ from entry_cache m c]
  pointwise
  blk_point [idx t, hb]

/-- The word a grid point compares the block table with is the number of the cache block. -/
theorem word_at (t : Fin cfg0.N) (n : Fin 128) (b : Fin 2048) (hb : b.val = t.val * 128 + n.val) :
    word (grid0.coords t) n = BitVec.ofNat 32 b.val := by
  unfold word
  rw [(idx t).2.2.2.2, hb]

/-- What grid point `t` stores at one place of its block is the kernel's result at the place of the array. -/
theorem stored_at (c : Dev nD) (t : Fin cfg0.N) (h : Fin 8) (d s : Fin 16) (l : Fin 8) (n : Fin 128) (b : Fin 2048)
    (hb : b.val = t.val * 128 + n.val) :
    out0_3 (F := Ideal) (grid0.coords t) (iblk m c 0 t) (iblk m c 1 t) (iblk m c 2 t) (ix5 h d s l n)
      = held (m ((c : Thread nD τ).loc main_arg0)) (m ((c : Thread nD τ).loc main_arg1)) (m ((c : Thread nD τ).loc main_arg2)) b h d s l := by
  refine (point_angles (grid0.coords t) (iblk m c 0 t) (iblk m c 1 t) (iblk m c 2 t) h d s l n).trans ?_
  unfold held
  rw [word_at t n b hb]
  exact congr (congrArg₂ rotate (funext fun e => blk2 m c t h e s l n b hb)
    (funext fun e => congrArg₂ (fun S Q => theta S Q (BitVec.ofNat 32 b.val) * ((Cert.Numbers.freq (e.val * 8 + l.val) : ℝ) : EReal))
      (funext fun i => blk0 m c t i) (funext fun i => blk1 m c t i))) rfl

/-- The array the blocks are written to, after the whole grid. -/
theorem written (c : Dev nD) : (dats m 0 c).arrAt 3 (cfgs 0).N
    = fun y : S8x16x16x8x2048.Idx => held (m ((c : Thread nD τ).loc main_arg0)) (m ((c : Thread nD τ).loc main_arg1)) (m ((c : Thread nD τ).loc main_arg2)) (y 4) (y 0) (y 1) (y 2) (y 3) := by
  refine (dats m 0 c).arrAt_eq_of_covers 3 _ (by decide +kernel) fun t hf y => ?_
  blk_simp
  rw [after0_3]
  idx_vars y
  have ht : t.val < 16 := t.isLt
  have hy : y4.val < 128 := y4.isLt
  have he : ((View.whole main_v3).slice (win0_3.rect t)).emb (ix5 y0 y1 y2 y3 y4)
      = (ix5 y0 y1 y2 y3 (⟨t.val * 128 + y4.val, by omega⟩ : Fin 2048) : S8x16x16x8x2048.Idx) := by
    blk_ext [idx t]
  rw [he]
  exact stored_at m c t y0 y1 y2 y3 y4 ⟨t.val * 128 + y4.val, by omega⟩ rfl

/-- After the last host operation the result array is the written array with its last axis moved to the front. -/
theorem moved (W : Valuation τ sig (Elt Ideal)) : StableHlo.after (List.flatten [hostOps1]) W (Proc.devRef .tc main_v4)
    = transpose S2048x8x16x16x8 [4, 0, 1, 2, 3] (W (Proc.devRef .tc main_v3)) transposes_S8x16x16x8x2048_S2048x8x16x16x8_4_0_1_2_3 := by
  rw [List.flatten_cons, List.flatten_nil, List.append_nil]
  after_results; try rfl

/-- The kernel's result array after the run, at each of its places. -/
theorem result (c : Dev nD) : Pipeline.afterTail₀ cfgs (dats m) 0 (V0 m) [hostOps1] c main_v4
    = fun y : S2048x8x16x16x8.Idx => held (m ((c : Thread nD τ).loc main_arg0)) (m ((c : Thread nD τ).loc main_arg1)) (m ((c : Thread nD τ).loc main_arg2)) (y 0) (y 1) (y 2) (y 3) (y 4) := by
  unfold Pipeline.afterTail₀
  refine (moved _).trans ?_
  have hw : Pipeline.withArrays (cfgs 0).spec c (V0 m c) (fun w => (dats m 0 c).arrAt w (cfgs 0).N) (Proc.devRef .tc main_v3)
      = (dats m 0 c).arrAt 3 (cfgs 0).N :=
    Pipeline.withArrays_arr (cfgs 0).spec launch0.win.arr_inj c (V0 m c) (fun w => (dats m 0 c).arrAt w (cfgs 0).N) 3
  rw [hw, written m c]
  funext y
  idx_vars y
  pointwise

/-- The kernel runs; on every device its result array ends at the closed form of the arguments, and the arguments end unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v4)
        = (fun y : S2048x8x16x16x8.Idx => held (m ((c : Thread nD τ).loc main_arg0)) (m ((c : Thread nD τ).loc main_arg1)) (m ((c : Thread nD τ).loc main_arg2)) (y 0) (y 1) (y 2) (y 3) (y 4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h c).2 main_v4 (Pipeline.mem_restRefs_of main_v4 (by decide) (by decide))).trans (result m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m g)

end Cert.Held

end
-- ==== Proof.Rows.lean ====
/- Reading a table row by row: what the gather of rows holds, and where the updates of the scatter of rows land. -/
module

public import proofs.«01_k».proof.Proof.Gen.ReferenceIdeal
public import Idealize.ShloMosaic.Lib.Routing.OpsPair
public import Idealize.ShloMosaic.Lib.Pointwise

@[expose] public section

set_option maxRecDepth 16384

noncomputable section

namespace Cert.Rows

open Idealize.ShloMosaic Cert.ReferenceIdeal Cert.ReferenceIdeal.Gen

/-- The dimension numbers of the gather of whole rows. -/
abbrev dg := gather_S2048x8x16x16x8_S64x1_S64x8x16x16x8_1234_0_n_n_0_1_1816168
/-- The dimension numbers of the scatter of whole rows. -/
abbrev ds := scatter_S2048x8x16x16x8_S64x1_S64x8x16x16x8_1234_0_0_1

/-- A fold that overwrites its value at the positions where `p` holds ends at the value of the last such position. -/
theorem foldl_last {α : Type} {N : Nat} (p : Fin N → Prop) [DecidablePred p] (g : Fin N → α) (a0 : α) (n0 : Fin N) (h0 : p n0)
    (hl : ∀ n, n0 < n → ¬ p n) : (List.finRange N).foldl (fun a n => if p n then g n else a) a0 = g n0 := by
  induction N generalizing a0 with
  | zero => exact n0.elim0
  | succ N ih =>
    rw [List.finRange_succ_last, List.foldl_append, List.foldl_map]
    simp only [List.foldl_cons, List.foldl_nil]
    by_cases e : n0 = Fin.last N
    · subst e; rw [if_pos h0]
    · rw [if_neg (hl _ (lt_of_le_of_ne (Fin.le_last _) e))]
      obtain ⟨n1, rfl⟩ : ∃ n1 : Fin N, n0 = n1.castSucc := ⟨n0.castPred e, by simp⟩
      exact ih (fun n => p n.castSucc) (fun n => g n.castSucc) a0 n1 h0 fun n hn => hl _ (by simpa using hn)

/-- A fold that overwrites its value at the positions where `p` holds keeps its value when there is none. -/
theorem foldl_keep {α : Type} {N : Nat} (p : Fin N → Prop) [DecidablePred p] (g : Fin N → α) (a0 : α)
    (hl : ∀ n, ¬ p n) : (List.finRange N).foldl (fun a n => if p n then g n else a) a0 = a0 := by
  induction (List.finRange N) with
  | nil => rfl
  | cons x l ih => rw [List.foldl_cons, if_neg (hl x), ih]

/-- Update `k` of the scatter lands at `j` exactly when the index of its row is the row of `j` and its other coordinates are those of `j`. -/
theorem lands (k : S64x8x16x16x8.Idx) (idx : IVec S64x1 32) (j : S2048x8x16x16x8.Idx) :
    ds.resultIdx? k idx = some j ↔ (idx (ix2 (k 0) (0 : Fin 1))).toInt = ((j 0).val : Int) ∧ (k 1).val = (j 1).val
      ∧ (k 2).val = (j 2).val ∧ (k 3).val = (j 3).val ∧ (k 4).val = (j 4).val := by
  have hs : ds.siIdx k ⟨0, by decide⟩ = ix2 (k 0) (0 : Fin 1) := by
    funext b; match b with
    | ⟨0, _⟩ => rfl
    | ⟨1, _⟩ => rfl
  have h0 : ds.start k idx 0 + (ds.window k 0 : Int) = (idx (ix2 (k 0) (0 : Fin 1))).toInt := by
    have e : ds.start k idx 0 = (idx (ix2 (k 0) (0 : Fin 1))).toInt := congrArg (fun q => (idx q).toInt) hs
    exact (congrArg (· + (0 : Int)) e).trans (Int.add_zero _)
  have h1 : ds.start k idx 1 + (ds.window k 1 : Int) = ((k 1).val : Int) := Int.zero_add _
  have h2 : ds.start k idx 2 + (ds.window k 2 : Int) = ((k 2).val : Int) := Int.zero_add _
  have h3 : ds.start k idx 3 + (ds.window k 3 : Int) = ((k 3).val : Int) := Int.zero_add _
  have h4 : ds.start k idx 4 + (ds.window k 4 : Int) = ((k 4).val : Int) := Int.zero_add _
  rw [Routing.resultIdx?_eq_some]
  constructor
  · intro h
    have q0 := h 0; have q1 := h 1; have q2 := h 2; have q3 := h 3; have q4 := h 4
    rw [h0] at q0; rw [h1] at q1; rw [h2] at q2; rw [h3] at q3; rw [h4] at q4
    exact ⟨q0, by exact_mod_cast q1, by exact_mod_cast q2, by exact_mod_cast q3, by exact_mod_cast q4⟩
  · rintro ⟨q0, q1, q2, q3, q4⟩ a
    match a with
    | ⟨0, _⟩ => exact h0.trans q0
    | ⟨1, _⟩ => exact h1.trans (by exact_mod_cast q1)
    | ⟨2, _⟩ => exact h2.trans (by exact_mod_cast q2)
    | ⟨3, _⟩ => exact h3.trans (by exact_mod_cast q3)
    | ⟨4, _⟩ => exact h4.trans (by exact_mod_cast q4)

/-- Where no row has index `b`, the overwriting scatter leaves the operand's row `b`. -/
theorem scatter_none {α : Type} (x : S2048x8x16x16x8.Idx → α) (idx : IVec S64x1 32) (u : S64x8x16x16x8.Idx → α)
    (j : S2048x8x16x16x8.Idx) (hn : ∀ i : Fin 64, (idx (ix2 i (0 : Fin 1))).toInt ≠ ((j 0).val : Int)) :
    Host.scatter ds (fun _ b => b) x idx u j = x j := by
  rw [Routing.scatter_at]
  exact foldl_keep (fun n => ds.resultIdx? (S64x8x16x16x8.rowMajor.symm n) idx = some j)
    (fun n => u (S64x8x16x16x8.rowMajor.symm n)) _ fun n h => hn _ ((lands _ _ _).1 h).1

/-- Where `w` is the last row with index `b`, the overwriting scatter holds row `w` of the updates in row `b`. -/
theorem scatter_last {α : Type} (x : S2048x8x16x16x8.Idx → α) (idx : IVec S64x1 32) (u : S64x8x16x16x8.Idx → α)
    (j : S2048x8x16x16x8.Idx) (w : Fin 64) (hw : (idx (ix2 w (0 : Fin 1))).toInt = ((j 0).val : Int))
    (hl : ∀ i : Fin 64, w < i → (idx (ix2 i (0 : Fin 1))).toInt ≠ ((j 0).val : Int)) :
    Host.scatter ds (fun _ b => b) x idx u j = u (ix5 w (j 1) (j 2) (j 3) (j 4)) := by
  rw [Routing.scatter_at]
  refine (foldl_last (fun n => ds.resultIdx? (S64x8x16x16x8.rowMajor.symm n) idx = some j)
    (fun n => u (S64x8x16x16x8.rowMajor.symm n)) _ (S64x8x16x16x8.rowMajor (ix5 w (j 1) (j 2) (j 3) (j 4))) ?_ ?_).trans ?_
  · rw [Equiv.symm_apply_apply, lands]; exact ⟨hw, rfl, rfl, rfl, rfl⟩
  · intro n hn h
    obtain ⟨k, rfl⟩ := S64x8x16x16x8.rowMajor.surjective n
    rw [Equiv.symm_apply_apply, lands] at h
    obtain ⟨q0, q1, q2, q3, q4⟩ := h
    have hne : ¬ w < k 0 := fun hlt => hl _ hlt q0
    have hv : (S64x8x16x16x8.rowMajor (ix5 w (j 1) (j 2) (j 3) (j 4))).val < (S64x8x16x16x8.rowMajor k).val := hn
    rw [Shape.rowMajor_val_five, Shape.rowMajor_val_five] at hv
    have e0 : ((ix5 w (j 1) (j 2) (j 3) (j 4) : S64x8x16x16x8.Idx) 0).val = w.val := rfl
    have e1 : ((ix5 w (j 1) (j 2) (j 3) (j 4) : S64x8x16x16x8.Idx) 1).val = (j 1).val := rfl
    have e2 : ((ix5 w (j 1) (j 2) (j 3) (j 4) : S64x8x16x16x8.Idx) 2).val = (j 2).val := rfl
    have e3 : ((ix5 w (j 1) (j 2) (j 3) (j 4) : S64x8x16x16x8.Idx) 3).val = (j 3).val := rfl
    have e4 : ((ix5 w (j 1) (j 2) (j 3) (j 4) : S64x8x16x16x8.Idx) 4).val = (j 4).val := rfl
    rw [e0, e1, e2, e3, e4, q1, q2, q3, q4] at hv
    have hw' : (k 0).val ≤ w.val := not_lt.1 fun h => hne h
    have hm : ∀ A B c1 c2 c3 c4 : ℕ, A ≤ B →
        ¬ ((((B * 8 + c1) * 16 + c2) * 16 + c3) * 8 + c4 < (((A * 8 + c1) * 16 + c2) * 16 + c3) * 8 + c4) := by intros; omega
    exact hm _ _ _ _ _ _ hw' hv
  · rw [Equiv.symm_apply_apply]

/-- Row `i` of the gather, where row `i` names row `b` of the table: that row. -/
theorem gather_row {α : Type} (x : S2048x8x16x16x8.Idx → α) (idx : IVec S64x1 32) (i : Fin 64) (h : Fin 8) (d s : Fin 16) (l : Fin 8)
    (b : Fin 2048) (hb : (idx (ix2 i (0 : Fin 1))).toInt = (b.val : Int)) :
    Host.gather dg x idx (ix5 i h d s l) = x (ix5 b h d s l) := by
  have hs : dg.siIdx (ix5 i h d s l) ⟨0, by decide⟩ = ix2 i (0 : Fin 1) := by
    funext b; match b with
    | ⟨0, _⟩ => rfl
    | ⟨1, _⟩ => rfl
  have h0 : dg.start (ix5 i h d s l) idx 0 = min (idx (ix2 i (0 : Fin 1))).toInt.toNat 2047 := by
    exact congrArg (fun q => min (idx q).toInt.toNat 2047) hs
  unfold Host.gather
  refine congrArg x (funext fun a => Fin.ext ?_)
  match a with
  | ⟨0, _⟩ =>
    show dg.start (ix5 i h d s l) idx 0 + 0 + 0 = b.val
    have := b.isLt
    rw [h0, hb]; simp; omega
  | ⟨1, _⟩ => exact (show 0 + 0 + h.val = h.val by omega)
  | ⟨2, _⟩ => exact (show 0 + 0 + d.val = d.val by omega)
  | ⟨3, _⟩ => exact (show 0 + 0 + s.val = s.val by omega)
  | ⟨4, _⟩ => exact (show 0 + 0 + l.val = l.val by omega)

end Cert.Rows

end
-- ==== Proof.Reference.lean ====
/- What the reference computes, read element by element: the rows it gathers, the angles, the rotated rows. -/
module

public import proofs.«01_k».proof.Proof.Rows
public import proofs.«01_k».proof.Proof.Numbers
public import proofs.«01_k».proof.Proof.Gen.ReferenceIdeal.Run
public import Idealize.ShloMosaic.Lib.Pointwise

@[expose] public section

set_option maxRecDepth 16384

noncomputable section

namespace Cert.Refer

open Idealize.ShloMosaic Cert.ReferenceIdeal Cert.ReferenceIdeal.Gen Idealize.SL.Sem
open Cert.Rows (dg ds)
open Cert.Numbers (past past_eq past_round freq_pow sitofp_small)

/-- The first column of the block table. -/
def col (T : IVec S64x257 32) : IVec S64 32 :=
  shapeCast S64 (extractStridedSlice S64x1 ![0, 0] T slices_S64x257_S64x1_0_0) shapeCasts_S64x1_S64

/-- The row indices of the gather and of the scatter: a negative one counts from the end. -/
def rows (T : IVec S64x257 32) : IVec S64x1 32 :=
  broadcastInDim S64x1 ![0] bcast_S64_S64x1_0 (select (cmpi .slt (col T) (broadcastInDim S64 ![] bcast_S_S64 (constantI S_ 32 0#32)))
    (addi (col T) (broadcastInDim S64 ![] bcast_S_S64 (constantI S_ 32 2048#32))) (col T))

/-- Whether a row index names a row of the table. -/
def inside (T : IVec S64x257 32) : IVec S64 1 :=
  Host.reduce IntOp.andi (andi (cmpi .sge (rows T) (broadcastInDim S64x1 ![] bcast_S_S64x1 (constantI S_ 32 0#32)))
    (cmpi .sle (rows T) (broadcastInDim S64x1 ![0, 1] bcast_S1x1_S64x1_0_1 (broadcastInDim S1x1 ![1] bcast_S1_S1x1_1 (constantI S1 32 2047#32)))))
    (constantI S_ 1 1#1) reducesTo_S64x1_S64_d1 h_S_

/-- The gathered rows, the filler where the index names none. -/
def taken (X : FVec Ideal S2048x8x16x16x8 .f32) (T : IVec S64x257 32) : FVec Ideal S64x8x16x16x8 .f32 :=
  select (broadcastInDim S64x8x16x16x8 ![0] bcast_S64_S64x8x16x16x8_0 (inside T)) (Host.gather dg X (rows T))
    (broadcastInDim S64x8x16x16x8 ![] bcast_S_S64x8x16x16x8 (constant S_ .f32 0x7FC00000#32))

/-- The rotation positions of the sixteen slots of a row, rounded to integers and back. -/
def turn (Q : IVec S64 32) : FVec Ideal S64x16 .f32 :=
  sitofp .f32 (fptosi 32 (mulf (broadcastInDim S64x16 ![0, 1] bcast_S1x16_S64x16_0_1 (broadcastInDim S1x16 ![] bcast_S_S1x16 (constant S_ .f32 0x3F800000#32)))
    (broadcastInDim S64x16 ![0, 1] bcast_S64x1_S64x16_0_1 (broadcastInDim S64x1 ![0] bcast_S64_S64x1_0
      (maximumf (subf (sitofp .f32 Q) (broadcastInDim S64 ![] bcast_S_S64 (constant S_ .f32 0x45808000#32))) (broadcastInDim S64 ![] bcast_S_S64 (constant S_ .f32 0x00000000#32))))) : FVec Ideal S64x16 .f32))

/-- The sixty-four frequencies. -/
def freq : FVec Ideal S64 .f32 :=
  Host.divf (broadcastInDim S64 ![] bcast_S_S64 (constant S_ .f32 0x3F800000#32)) (Host.powf (broadcastInDim S64 ![] bcast_S_S64 (constant S_ .f32 0x461C4000#32))
    (Host.divf (addf (broadcastInDim S64 ![] bcast_S_S64 (constant S_ .f32 0x00000000#32)) (mulf (broadcastInDim S64 ![] bcast_S_S64 (constant S_ .f32 0x40000000#32)) (sitofp .f32 (iotaInDim S64 32 0))))
      (broadcastInDim S64 ![] bcast_S_S64 (constant S_ .f32 0x43000000#32))))

/-- The angles: rotation position times frequency. -/
def angle (Q : IVec S64 32) : FVec Ideal S64x16x64 .f32 :=
  mulf (broadcastInDim S64x16x64 ![0, 1, 2] bcast_S64x16x1_S64x16x64_0_1_2 (broadcastInDim S64x16x1 ![0, 1] bcast_S64x16_S64x16x1_0_1 (turn Q)))
    (broadcastInDim S64x16x64 ![0, 1, 2] bcast_S1x1x64_S64x16x64_0_1_2 (broadcastInDim S1x1x64 ![2] bcast_S64_S1x1x64_2 freq))

/-- The gathered rows laid out with one axis of 128 entries per head. -/
def heads (X : FVec Ideal S2048x8x16x16x8 .f32) (T : IVec S64x257 32) : FVec Ideal S64x16x8x128 .f32 :=
  shapeCast S64x16x8x128 (shapeCast S64x16x1024 (transpose S64x16x8x16x8 [0, 3, 1, 2, 4] (taken X T) transposes_S64x8x16x16x8_S64x16x8x16x8_0_3_1_2_4)
    shapeCasts_S64x16x8x16x8_S64x16x1024) shapeCasts_S64x16x1024_S64x16x8x128

/-- The first half of each head. -/
def lower (X : FVec Ideal S2048x8x16x16x8 .f32) (T : IVec S64x257 32) : FVec Ideal S64x16x8x64 .f32 :=
  extractStridedSlice S64x16x8x64 ![0, 0, 0, 0] (heads X T) slices_S64x16x8x128_S64x16x8x64_0_0_0_0

/-- The second half of each head. -/
def upper (X : FVec Ideal S2048x8x16x16x8 .f32) (T : IVec S64x257 32) : FVec Ideal S64x16x8x64 .f32 :=
  extractStridedSlice S64x16x8x64 ![0, 0, 0, 64] (heads X T) slices_S64x16x8x128_S64x16x8x64_0_0_0_64

/-- The cosines of the angles, the same for every head. -/
def cosines (Q : IVec S64 32) : FVec Ideal S64x16x8x64 .f32 :=
  broadcastInDim S64x16x8x64 ![0, 1, 2, 3] bcast_S64x16x1x64_S64x16x8x64_0_1_2_3 (broadcastInDim S64x16x1x64 ![0, 1, 3] bcast_S64x16x64_S64x16x1x64_0_1_3 (Host.cos (angle Q)))

/-- The sines of the angles, the same for every head. -/
def sines (Q : IVec S64 32) : FVec Ideal S64x16x8x64 .f32 :=
  broadcastInDim S64x16x8x64 ![0, 1, 2, 3] bcast_S64x16x1x64_S64x16x8x64_0_1_2_3 (broadcastInDim S64x16x1x64 ![0, 1, 3] bcast_S64x16x64_S64x16x1x64_0_1_3 (Host.sin (angle Q)))

/-- The rotated rows in the table's own layout. -/
def turned (X : FVec Ideal S2048x8x16x16x8 .f32) (T : IVec S64x257 32) (Q : IVec S64 32) : FVec Ideal S64x8x16x16x8 .f32 :=
  transpose S64x8x16x16x8 [0, 2, 3, 1, 4] (shapeCast S64x16x8x16x8 (shapeCast S64x16x1024
    (concatenate S64x16x8x128 3 [⟨S64x16x8x64, subf (mulf (lower X T) (cosines Q)) (mulf (upper X T) (sines Q))⟩,
      ⟨S64x16x8x64, addf (mulf (upper X T) (cosines Q)) (mulf (lower X T) (sines Q))⟩] concatenates_S64x16x8x64_S64x16x8x64_S64x16x8x128_d3)
    shapeCasts_S64x16x8x128_S64x16x1024) shapeCasts_S64x16x1024_S64x16x8x16x8) transposes_S64x16x8x16x8_S64x8x16x16x8_0_2_3_1_4

/-- The reference's result as a function of its arguments. -/
def out (X : FVec Ideal S2048x8x16x16x8 .f32) (T : IVec S64x257 32) (Q : IVec S64 32) : FVec Ideal S2048x8x16x16x8 .f32 :=
  Host.scatter ds (fun _ b => b) X (rows T) (turned X T Q)

/-- The result of the reference's run is `out` of its arguments. -/
theorem result_eq (m : (ℓ : Loc nD τ sig) → Buf (Elt Ideal) ℓ) (c : Dev nD) :
    Cert.ReferenceIdeal.Value.res_out0 m c
      = out (m ((c.tc : Thread nD τ).loc main_arg0)) (m ((c.tc : Thread nD τ).loc main_arg1)) (m ((c.tc : Thread nD τ).loc main_arg2)) := rfl

/-- The first column, element by element. -/
theorem col_at (T : IVec S64x257 32) (i : Fin 64) : col T (ix1 i) = T (ix2 i (0 : Fin 257)) := by
  pointwise [col]

/-- The row index of row `i`, where the table's word is not negative: the word. -/
theorem rows_at (T : IVec S64x257 32) (i : Fin 64) (h : 0 ≤ (T (ix2 i (0 : Fin 257))).toInt) :
    rows T (ix2 i (0 : Fin 1)) = T (ix2 i (0 : Fin 257)) := by
  pointwise [rows, col]
  have e : IntOp.cmpi CmpIPredicate.slt (T (ix2 i (0 : Fin 257))) 0#32 = 0#1 := by
    show BitVec.ofBool ((T (ix2 i (0 : Fin 257))).slt 0#32) = 0#1
    have : (T (ix2 i (0 : Fin 257))).slt 0#32 = false := by simp [BitVec.slt, h]
    rw [this]; rfl
  rw [e]; rfl

/-- A row index that is neither negative nor beyond the table names a row. -/
theorem inside_at (T : IVec S64x257 32) (i : Fin 64) (h : 0 ≤ (T (ix2 i (0 : Fin 257))).toInt) (h' : (T (ix2 i (0 : Fin 257))).toInt < 2048) :
    inside T (ix1 i) = 1#1 := by
  pointwise [inside]
  rw [show (Finset.univ : Finset (Fin 1)) = {0} from rfl, Finset.fold_singleton, rows_at T i h]
  have e1 : IntOp.cmpi CmpIPredicate.sge (T (ix2 i (0 : Fin 257))) 0#32 = 1#1 := by
    show BitVec.ofBool ((0#32).sle (T (ix2 i (0 : Fin 257)))) = 1#1
    have : (0#32).sle (T (ix2 i (0 : Fin 257))) = true := by simp [BitVec.sle, h]
    rw [this]; rfl
  have e2 : IntOp.cmpi CmpIPredicate.sle (T (ix2 i (0 : Fin 257))) 2047#32 = 1#1 := by
    show BitVec.ofBool ((T (ix2 i (0 : Fin 257))).sle 2047#32) = 1#1
    have : (T (ix2 i (0 : Fin 257))).sle 2047#32 = true := by simp [BitVec.sle]; omega
    rw [this]; rfl
  rw [e1, e2]; rfl

/-- The gathered row `i`, where its index names row `b` of the table: that row. -/
theorem taken_at (X : FVec Ideal S2048x8x16x16x8 .f32) (T : IVec S64x257 32) (i : Fin 64) (h : Fin 8) (d s : Fin 16) (l : Fin 8)
    (b : Fin 2048) (hb : (T (ix2 i (0 : Fin 257))).toInt = (b.val : Int)) :
    taken X T (ix5 i h d s l) = X (ix5 b h d s l) := by
  have h0 : 0 ≤ (T (ix2 i (0 : Fin 257))).toInt := by omega
  have h1 : (T (ix2 i (0 : Fin 257))).toInt < 2048 := by have := b.isLt; omega
  pointwise [taken, inside_at T i h0 h1]
  exact Cert.Rows.gather_row X (rows T) i h d s l b (by rw [rows_at T i h0, hb])

/-- The rotation position of a row's slots: that of the row's sequence. -/
theorem turn_at (Q : IVec S64 32) (i : Fin 64) (s : Fin 16) : turn Q (ix2 i s) = (((past (Q (ix1 i)) : ℤ) : ℝ) : EReal) := by
  pointwise [turn]
  rw [past_eq, past_round]

/-- The frequencies. -/
theorem freq_at (k : Fin 64) : freq (ix1 k) = ((Cert.Numbers.freq k.val : ℝ) : EReal) := by
  pointwise [freq]
  exact freq_pow k.val _ (sitofp_small _ (by have := k.isLt; omega))

/-- The angle of pair number `k` in row `i`. -/
def phase (q : BitVec 32) (k : ℕ) : EReal := (((past q : ℤ) : ℝ) : EReal) * ((Cert.Numbers.freq k : ℝ) : EReal)

/-- The angles, element by element. -/
theorem angle_at (Q : IVec S64 32) (i : Fin 64) (s : Fin 16) (k : Fin 64) : angle Q (ix3 i s k) = phase (Q (ix1 i)) k.val := by
  pointwise [angle]
  rw [turn_at, freq_at, phase]

/-- The lower half of a rotated row. -/
theorem turned_lower (X : FVec Ideal S2048x8x16x16x8 .f32) (T : IVec S64x257 32) (Q : IVec S64 32) (i : Fin 64) (h : Fin 8) (d s : Fin 16) (l : Fin 8)
    (d' : Fin 16) (hd : d.val < 8) (hd' : d'.val = d.val + 8) :
    turned X T Q (ix5 i h d s l) = taken X T (ix5 i h d s l) * Ideal.cos (phase (Q (ix1 i)) (d.val * 8 + l.val))
      - taken X T (ix5 i h d' s l) * Ideal.sin (phase (Q (ix1 i)) (d.val * 8 + l.val)) := by
  have hl := l.isLt
  pointwise [turned, lower, upper, heads, cosines, sines]
  rw [dif_pos (by omega), angle_at]
  have e : (⟨(64 + (d.val * 8 + l.val)) / 8, by omega⟩ : Fin 16) = d' := Fin.ext (by show (64 + (d.val * 8 + l.val)) / 8 = d'.val; omega)
  rw [e]

/-- The upper half of a rotated row. -/
theorem turned_upper (X : FVec Ideal S2048x8x16x16x8 .f32) (T : IVec S64x257 32) (Q : IVec S64 32) (i : Fin 64) (h : Fin 8) (d s : Fin 16) (l : Fin 8)
    (d' : Fin 16) (hd' : d.val = d'.val + 8) :
    turned X T Q (ix5 i h d s l) = taken X T (ix5 i h d s l) * Ideal.cos (phase (Q (ix1 i)) (d'.val * 8 + l.val))
      + taken X T (ix5 i h d' s l) * Ideal.sin (phase (Q (ix1 i)) (d'.val * 8 + l.val)) := by
  have hl := l.isLt
  have hd := d.isLt
  pointwise [turned, lower, upper, heads, cosines, sines]
  rw [dif_neg (by omega), angle_at]
  have e1 : (ix5 i h (⟨(64 + (d.val * 8 + l.val - 64)) / 8, by omega⟩ : Fin 16) s (⟨(64 + (d.val * 8 + l.val - 64)) % 8, by omega⟩ : Fin 8) : S64x8x16x16x8.Idx)
      = ix5 i h d s l := by
    congr 1 <;> apply Fin.ext <;> simp only [] <;> omega
  have e2 : (ix5 i h (⟨(d.val * 8 + l.val - 64) / 8, by omega⟩ : Fin 16) s (⟨(d.val * 8 + l.val - 64) % 8, by omega⟩ : Fin 8) : S64x8x16x16x8.Idx)
      = ix5 i h d' s l := by
    congr 1 <;> apply Fin.ext <;> simp only [] <;> omega
  have e5 : d.val * 8 + l.val - 64 = d'.val * 8 + l.val := by omega
  have e6 : phase (Q (ix1 i)) (d.val * 8 + l.val - 64) = phase (Q (ix1 i)) (d'.val * 8 + l.val) := congrArg _ e5
  exact congrArg₂ (fun a b : EReal => a + b) (congrArg₂ (fun a b : EReal => a * b) (congrArg (taken X T) e1) (congrArg Ideal.cos e6))
    (congrArg₂ (fun a b : EReal => a * b) (congrArg (taken X T) e2) (congrArg Ideal.sin e6))

/-- Where no sequence's sink block is `b`, the reference leaves block `b` as it was. -/
theorem out_none (X : FVec Ideal S2048x8x16x16x8 .f32) (T : IVec S64x257 32) (Q : IVec S64 32) (hT : ∀ i : Fin 64, 0 ≤ (T (ix2 i (0 : Fin 257))).toInt)
    (b : Fin 2048) (h : Fin 8) (d s : Fin 16) (l : Fin 8) (hn : ∀ i : Fin 64, (T (ix2 i (0 : Fin 257))).toInt ≠ (b.val : Int)) :
    out X T Q (ix5 b h d s l) = X (ix5 b h d s l) :=
  Cert.Rows.scatter_none X (rows T) (turned X T Q) (ix5 b h d s l) fun i => by rw [rows_at T i (hT i)]; exact hn i

/-- Where `w` is the last sequence whose sink block is `b`, the reference holds in block `b` the rotated row `w`. -/
theorem out_last (X : FVec Ideal S2048x8x16x16x8 .f32) (T : IVec S64x257 32) (Q : IVec S64 32) (hT : ∀ i : Fin 64, 0 ≤ (T (ix2 i (0 : Fin 257))).toInt)
    (b : Fin 2048) (h : Fin 8) (d s : Fin 16) (l : Fin 8) (w : Fin 64) (hw : (T (ix2 w (0 : Fin 257))).toInt = (b.val : Int))
    (hl : ∀ i : Fin 64, w < i → (T (ix2 i (0 : Fin 257))).toInt ≠ (b.val : Int)) :
    out X T Q (ix5 b h d s l) = turned X T Q (ix5 w h d s l) :=
  Cert.Rows.scatter_last X (rows T) (turned X T Q) (ix5 b h d s l) w (by rw [rows_at T w (hT w)]; exact hw)
    fun i hi => by rw [rows_at T i (hT i)]; exact hl i hi

end Cert.Refer

end
-- ==== Proof.Equation.lean ====
/- The equation: the array the kernel leaves is the array the reference computes. -/
module

public import proofs.«01_k».proof.Proof.Array
public import proofs.«01_k».proof.Proof.Reference

@[expose] public section

set_option maxRecDepth 16384

noncomputable section

namespace Cert.Equation

open Idealize.ShloMosaic Cert.KernelIdeal Idealize.SL.Sem
open Cert.Stored (rotate rotate_zero)
open Cert.Block (theta theta_none theta_last toInt_small)
open Cert.Held (held)
open Cert.Refer (out out_none out_last turned turned_lower turned_upper taken taken_at phase)

variable (X : FVec Ideal S2048x8x16x16x8 .f32) (T : IVec S64x257 32) (Q : IVec S64 32)

/-- A block-table word is the word of a cache block exactly when it names that block. -/
theorem names (x : BitVec 32) (b : Fin 2048) : BitVec.ofNat 32 b.val = x ↔ x.toInt = (b.val : ℤ) := by
  have hb : b.val < 2 ^ 31 := by have := b.isLt; omega
  rw [← BitVec.toInt_inj, toInt_small b.val hb, eq_comm]

/-- Of the sequences that name a cache block, if there are any, one is the last. -/
theorem exists_last (p : Fin 64 → Prop) (h : ∃ i, p i) : ∃ w, p w ∧ ∀ i, w < i → ¬ p i := by
  classical
  obtain ⟨i, hi⟩ := h
  have hne : (Finset.univ.filter p).Nonempty := ⟨i, by simp [hi]⟩
  refine ⟨(Finset.univ.filter p).max' hne, ?_, fun j hj hp => ?_⟩
  · simpa using (Finset.univ.filter p).max'_mem hne
  · exact absurd ((Finset.univ.filter p).le_max' j (by simp [hp])) (not_le.2 hj)

/-- A cache block no sequence names: the kernel keeps it. -/
theorem held_none (b : Fin 2048) (h : Fin 8) (d s : Fin 16) (l : Fin 8)
    (hn : ∀ i, (T (ix2 i (0 : Fin 257))).toInt ≠ b.val) : held X T Q b h d s l = X (ix5 b h d s l) := by
  unfold held
  rw [theta_none _ _ _ fun i e => hn i ((names _ b).1 e)]
  simp only [zero_mul]
  exact rotate_zero _ d

/-- A cache block some sequence names, the last being `w`: the kernel rotates it by the phases of `w`. -/
theorem held_last (b : Fin 2048) (h : Fin 8) (d s : Fin 16) (l : Fin 8) (w : Fin 64)
    (hw : (T (ix2 w (0 : Fin 257))).toInt = b.val) (hl : ∀ i, w < i → (T (ix2 i (0 : Fin 257))).toInt ≠ b.val) :
    held X T Q b h d s l
      = rotate (fun e => X (ix5 b h e s l)) (fun e => phase (Q (ix1 w)) (e.val * 8 + l.val)) d := by
  unfold held
  rw [theta_last _ _ _ w ((names _ b).2 hw) fun i hi e => hl i hi ((names _ b).1 e)]
  rfl

/-- The rotated rows the reference writes back, as the same rotation. -/
theorem turned_rotate (b : Fin 2048) (h : Fin 8) (d s : Fin 16) (l : Fin 8) (w : Fin 64)
    (hw : (T (ix2 w (0 : Fin 257))).toInt = b.val) :
    turned X T Q (ix5 w h d s l)
      = rotate (fun e => X (ix5 b h e s l)) (fun e => phase (Q (ix1 w)) (e.val * 8 + l.val)) d := by
  unfold rotate
  split_ifs with hd
  · rw [turned_lower X T Q w h d s l ⟨d.val + 8, by omega⟩ hd rfl, taken_at X T w h d s l b hw,
      taken_at X T w h ⟨d.val + 8, by omega⟩ s l b hw]
  · have hd' : d.val = (d.val - 8) + 8 := by omega
    rw [turned_upper X T Q w h d s l ⟨d.val - 8, by omega⟩ hd', taken_at X T w h d s l b hw,
      taken_at X T w h ⟨d.val - 8, by omega⟩ s l b hw]

/-- The kernel's result and the reference's agree at every place, when no entry of the block table's first column is negative. -/
theorem held_eq (hT : ∀ i : Fin 64, 0 ≤ (T (ix2 i (0 : Fin 257))).toInt) (b : Fin 2048) (h : Fin 8) (d s : Fin 16) (l : Fin 8) :
    held X T Q b h d s l = out X T Q (ix5 b h d s l) := by
  by_cases hx : ∃ i, (T (ix2 i (0 : Fin 257))).toInt = b.val
  · obtain ⟨w, hw, hl⟩ := exists_last _ hx
    rw [held_last X T Q b h d s l w hw hl, out_last X T Q hT b h d s l w hw hl, turned_rotate X T Q b h d s l w hw]
  · have hn : ∀ i, (T (ix2 i (0 : Fin 257))).toInt ≠ b.val := fun i e => hx ⟨i, e⟩
    rw [held_none X T Q b h d s l hn, out_none X T Q hT b h d s l hn]

/-- The kernel's result array is the reference's. -/
theorem array_eq (hT : ∀ i : Fin 64, 0 ≤ (T (ix2 i (0 : Fin 257))).toInt) :
    (fun y : S2048x8x16x16x8.Idx => held X T Q (y 0) (y 1) (y 2) (y 3) (y 4)) = out X T Q := by
  funext y
  idx_vars y
  exact held_eq X T Q hT y0 y1 y2 y3 y4

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Sinks
public import proofs.«01_k».proof.Proof.Equation
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The reference runs, its arguments end unchanged and every counter ends at zero: it declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The idealized kernel and the idealized reference end with equal result arrays. -/
theorem equal_results : Cert.algebraic_KernelIdeal_ReferenceIdeal_pre_sinks_nonneg (hKernelIdeal := Cert.KernelIdeal.Gen.facts)
    (hReferenceIdeal := Cert.ReferenceIdeal.Gen.facts) (hPre_sinks_nonneg := Cert.Sinks.facts) := by
  intro m g m' g' hpre hagree
  refine ⟨_, Cert.Held.run m g, (θ_run Cert.ReferenceIdeal.defs _ _).mono (fun r h c => ⟨(h c).1.trans ?_, (h c).2⟩) (Cert.ReferenceIdeal.Value.run (F := Ideal) m' g')⟩
  obtain ⟨e0, e1, e2⟩ := hagree c
  haveI := Cert.Sinks.facts
  have hT := Cert.Sinks.nonneg _ _ _ (hpre c)
  refine (Cert.Refer.result_eq m' c).trans ?_
  rw [e0, e1, e2]
  exact (Cert.Equation.array_eq _ _ _ hT).symm

/-- Every claim of the certificate. -/
theorem claim : Cert.Claim :=
  ⟨Cert.Kernel.Gen.facts, Cert.KernelIdeal.Gen.facts, Cert.ReferenceIdeal.Gen.facts, Cert.Sinks.facts,
    fun m g _ => Cert.Kernel.Gen.frame m g, fun m g _ => Cert.KernelIdeal.Gen.frame m g, fun m g _ => Cert.KernelIdeal.Gen.frame m g,
    fun m g _ => reference_frame m g, fun m g _ => reference_frame m g, trivial, equal_results⟩

end Cert.Proof

end
